-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x128 : Shape := ⟨2, ![16384, 128]⟩
abbrev S128x600 : Shape := ⟨2, ![128, 600]⟩
abbrev S600 : Shape := ⟨1, ![600]⟩
abbrev S600x600 : Shape := ⟨2, ![600, 600]⟩
abbrev S600x56 : Shape := ⟨2, ![600, 56]⟩
abbrev S56 : Shape := ⟨1, ![56]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x600 : S_.BroadcastsInDim S128x600 (![] : Fin 0 → Fin S128x600.rank)
  reducesTo_S128x600_S_d0_1 : S128x600.ReducesTo [0, 1] S_
  bcast_S_S600 : S_.BroadcastsInDim S600 (![] : Fin 0 → Fin S600.rank)
  reducesTo_S600_S_d0 : S600.ReducesTo [0] S_
  bcast_S_S600x600 : S_.BroadcastsInDim S600x600 (![] : Fin 0 → Fin S600x600.rank)
  reducesTo_S600x600_S_d0_1 : S600x600.ReducesTo [0, 1] S_
  bcast_S_S600x56 : S_.BroadcastsInDim S600x56 (![] : Fin 0 → Fin S600x56.rank)
  reducesTo_S600x56_S_d0_1 : S600x56.ReducesTo [0, 1] S_
  bcast_S_S56 : S_.BroadcastsInDim S56 (![] : Fin 0 → Fin S56.rank)
  reducesTo_S56_S_d0 : S56.ReducesTo [0] S_

variable [Facts]

def fn_part1 {F : FTy → Type} [FloatOps F] (main_arg4 : FVec F S600 .f32) (main_arg5 : FVec F S600x56 .f32) (main_arg6 : FVec F S56 .f32) (main_v13 : IVec S_ 1) (main_v16 : IVec S600x600 1) : IVec S_ 1 :=
  let main_c_5 : IVec S_ 1 := constantI S_ 1 1#1
  let main_v17 : IVec S_ 1 := (fun x v => Host.reduce IntOp.andi x v reducesTo_S600x600_S_d0_1 h_S_) main_v16 main_c_5
  let main_v18 : IVec S_ 1 := andi main_v13 main_v17
  let main_v19 : FVec F S600 .f32 := Host.absf main_arg4
  let main_cst_6 : FVec F S_ .f32 := constant S_ .f32 0x7F800000#32
  let main_v20 : FVec F S600 .f32 := broadcastInDim S600 ![] bcast_S_S600 main_cst_6
  let main_v21 : IVec S600 1 := cmpf .olt main_v19 main_v20
  let main_c_7 : IVec S_ 1 := constantI S_ 1 1#1
  let main_v22 : IVec S_ 1 := (fun x v => Host.reduce IntOp.andi x v reducesTo_S600_S_d0 h_S_) main_v21 main_c_7
  let main_v23 : IVec S_ 1 := andi main_v18 main_v22
  let main_v24 : FVec F S600x56 .f32 := Host.absf main_arg5
  let main_cst_8 : FVec F S_ .f32 := constant S_ .f32 0x7F800000#32
  let main_v25 : FVec F S600x56 .f32 := broadcastInDim S600x56 ![] bcast_S_S600x56 main_cst_8
  let main_v26 : IVec S600x56 1 := cmpf .olt main_v24 main_v25
  let main_c_9 : IVec S_ 1 := constantI S_ 1 1#1
  let main_v27 : IVec S_ 1 := (fun x v => Host.reduce IntOp.andi x v reducesTo_S600x56_S_d0_1 h_S_) main_v26 main_c_9
  let main_v28 : IVec S_ 1 := andi main_v23 main_v27
  let main_v29 : FVec F S56 .f32 := Host.absf main_arg6
  let main_cst_10 : FVec F S_ .f32 := constant S_ .f32 0x7F800000#32
  let main_v30 : FVec F S56 .f32 := broadcastInDim S56 ![] bcast_S_S56 main_cst_10
  let main_v31 : IVec S56 1 := cmpf .olt main_v29 main_v30
  let main_c_11 : IVec S_ 1 := constantI S_ 1 1#1
  let main_v32 : IVec S_ 1 := (fun x v => Host.reduce IntOp.andi x v reducesTo_S56_S_d0 h_S_) main_v31 main_c_11
  let main_v33 : IVec S_ 1 := andi main_v28 main_v32
  main_v33

def fn {F : FTy → Type} [FloatOps F] (main_arg0 : FVec F S16384x128 .f32) (main_arg1 : FVec F S128x600 .f32) (main_arg2 : FVec F S600 .f32) (main_arg3 : FVec F S600x600 .f32) (main_arg4 : FVec F S600 .f32) (main_arg5 : FVec F S600x56 .f32) (main_arg6 : FVec F S56 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x600 .f32 := Host.absf main_arg1
  let main_cst_0 : FVec F S_ .f32 := constant S_ .f32 0x7F800000#32
  let main_v5 : FVec F S128x600 .f32 := broadcastInDim S128x600 ![] bcast_S_S128x600 main_cst_0
  let main_v6 : IVec S128x600 1 := cmpf .olt main_v4 main_v5
  let main_c_1 : IVec S_ 1 := constantI S_ 1 1#1
  let main_v7 : IVec S_ 1 := (fun x v => Host.reduce IntOp.andi x v reducesTo_S128x600_S_d0_1 h_S_) main_v6 main_c_1
  let main_v8 : IVec S_ 1 := andi main_v3 main_v7
  let main_v9 : FVec F S600 .f32 := Host.absf main_arg2
  let main_cst_2 : FVec F S_ .f32 := constant S_ .f32 0x7F800000#32
  let main_v10 : FVec F S600 .f32 := broadcastInDim S600 ![] bcast_S_S600 main_cst_2
  let main_v11 : IVec S600 1 := cmpf .olt main_v9 main_v10
  let main_c_3 : IVec S_ 1 := constantI S_ 1 1#1
  let main_v12 : IVec S_ 1 := (fun x v => Host.reduce IntOp.andi x v reducesTo_S600_S_d0 h_S_) main_v11 main_c_3
  let main_v13 : IVec S_ 1 := andi main_v8 main_v12
  let main_v14 : FVec F S600x600 .f32 := Host.absf main_arg3
  let main_cst_4 : FVec F S_ .f32 := constant S_ .f32 0x7F800000#32
  let main_v15 : FVec F S600x600 .f32 := broadcastInDim S600x600 ![] bcast_S_S600x600 main_cst_4
  let main_v16 : IVec S600x600 1 := cmpf .olt main_v14 main_v15
  fn_part1 (F := F) main_arg4 main_arg5 main_arg6 main_v13 main_v16
-- ==== Kernel.lean ====
abbrev S16384x128 : Shape := ⟨2, ![16384, 128]⟩
abbrev S128x600 : Shape := ⟨2, ![128, 600]⟩
abbrev S600 : Shape := ⟨1, ![600]⟩
abbrev S600x600 : Shape := ⟨2, ![600, 600]⟩
abbrev S600x56 : Shape := ⟨2, ![600, 56]⟩
abbrev S56 : Shape := ⟨1, ![56]⟩
abbrev S64x949 : Shape := ⟨2, ![64, 949]⟩
abbrev S64x64 : Shape := ⟨2, ![64, 64]⟩
abbrev S_ : Shape := ⟨0, ![]⟩
abbrev S128x640 : Shape := ⟨2, ![128, 640]⟩
abbrev S640 : Shape := ⟨1, ![640]⟩
abbrev S1x640 : Shape := ⟨2, ![1, 640]⟩
abbrev S640x640 : Shape := ⟨2, ![640, 640]⟩
abbrev S640x64 : Shape := ⟨2, ![640, 64]⟩
abbrev S64 : Shape := ⟨1, ![64]⟩
abbrev S1x64 : Shape := ⟨2, ![1, 64]⟩
abbrev S16384x949 : Shape := ⟨2, ![16384, 949]⟩
abbrev S1024x128 : Shape := ⟨2, ![1024, 128]⟩
abbrev S1024x949 : Shape := ⟨2, ![1024, 949]⟩
abbrev S1024x640 : Shape := ⟨2, ![1024, 640]⟩
abbrev S1024x64 : Shape := ⟨2, ![1024, 64]⟩
abbrev S1024 : Shape := ⟨1, ![1024]⟩
abbrev S1024x1 : Shape := ⟨2, ![1024, 1]⟩

abbrev nBuf : Space → Nat
  | .hbm => 31
  | .vmem => 12
  | .smem => 0
  | _ => 0

abbrev bufTy : (tb : Table) → Fin (tcTables nBuf tb) → BufTy
  | .hbm, ⟨0, _⟩ => ⟨S16384x128, .f32⟩
  | .hbm, ⟨1, _⟩ => ⟨S128x600, .f32⟩
  | .hbm, ⟨2, _⟩ => ⟨S600, .f32⟩
  | .hbm, ⟨3, _⟩ => ⟨S600x600, .f32⟩
  | .hbm, ⟨4, _⟩ => ⟨S600, .f32⟩
  | .hbm, ⟨5, _⟩ => ⟨S600x56, .f32⟩
  | .hbm, ⟨6, _⟩ => ⟨S56, .f32⟩
  | .hbm, ⟨7, _⟩ => ⟨S64x949, .f32⟩
  | .hbm, ⟨8, _⟩ => ⟨S64x64, .f32⟩
  | .hbm, ⟨9, _⟩ => ⟨S_, .i32⟩
  | .hbm, ⟨10, _⟩ => ⟨S_, .f32⟩
  | .hbm, ⟨11, _⟩ => ⟨S128x640, .f32⟩
  | .hbm, ⟨12, _⟩ => ⟨S_, .i32⟩
  | .hbm, ⟨13, _⟩ => ⟨S_, .f32⟩
  | .hbm, ⟨14, _⟩ => ⟨S640, .f32⟩
  | .hbm, ⟨15, _⟩ => ⟨S1x640, .f32⟩
  | .hbm, ⟨16, _⟩ => ⟨S_, .i32⟩
  | .hbm, ⟨17, _⟩ => ⟨S_, .f32⟩
  | .hbm, ⟨18, _⟩ => ⟨S640x640, .f32⟩
  | .hbm, ⟨19, _⟩ => ⟨S_, .i32⟩
  | .hbm, ⟨20, _⟩ => ⟨S_, .f32⟩
  | .hbm, ⟨21, _⟩ => ⟨S640, .f32⟩
  | .hbm, ⟨22, _⟩ => ⟨S1x640, .f32⟩
  | .hbm, ⟨23, _⟩ => ⟨S_, .i32⟩
  | .hbm, ⟨24, _⟩ => ⟨S_, .f32⟩
  | .hbm, ⟨25, _⟩ => ⟨S640x64, .f32⟩
  | .hbm, ⟨26, _⟩ => ⟨S_, .i32⟩
  | .hbm, ⟨27, _⟩ => ⟨S_, .f32⟩
  | .hbm, ⟨28, _⟩ => ⟨S64, .f32⟩
  | .hbm, ⟨29, _⟩ => ⟨S1x64, .f32⟩
  | .hbm, ⟨30, _⟩ => ⟨S16384x949, .f32⟩
  | .local _ .vmem, ⟨0, _⟩ => ⟨S1024x128, .f32⟩
  | .local _ .vmem, ⟨1, _⟩ => ⟨S1024x128, .f32⟩
  | .local _ .vmem, ⟨2, _⟩ => ⟨S128x640, .f32⟩
  | .local _ .vmem, ⟨3, _⟩ => ⟨S1x640, .f32⟩
  | .local _ .vmem, ⟨4, _⟩ => ⟨S640x640, .f32⟩
  | .local _ .vmem, ⟨5, _⟩ => ⟨S1x640, .f32⟩
  | .local _ .vmem, ⟨6, _⟩ => ⟨S640x64, .f32⟩
  | .local _ .vmem, ⟨7, _⟩ => ⟨S1x64, .f32⟩
  | .local _ .vmem, ⟨8, _⟩ => ⟨S64x949, .f32⟩
  | .local _ .vmem, ⟨9, _⟩ => ⟨S64x64, .f32⟩
  | .local _ .vmem, ⟨10, _⟩ => ⟨S1024x949, .f32⟩
  | .local _ .vmem, ⟨11, _⟩ => ⟨S1024x949, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_1 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_c_2 : Ref sig .tc := ⟨.hbm, 16, rfl⟩
abbrev main_call2_v0 : Ref sig .tc := ⟨.hbm, 17, rfl⟩
abbrev main_v3 : Ref sig .tc := ⟨.hbm, 18, rfl⟩
abbrev main_c_3 : Ref sig .tc := ⟨.hbm, 19, rfl⟩
abbrev main_call3_v0 : Ref sig .tc := ⟨.hbm, 20, rfl⟩
abbrev main_v4 : Ref sig .tc := ⟨.hbm, 21, rfl⟩
abbrev main_v5 : Ref sig .tc := ⟨.hbm, 22, rfl⟩
abbrev main_c_4 : Ref sig .tc := ⟨.hbm, 23, rfl⟩
abbrev main_call4_v0 : Ref sig .tc := ⟨.hbm, 24, rfl⟩
abbrev main_v6 : Ref sig .tc := ⟨.hbm, 25, rfl⟩
abbrev main_c_5 : Ref sig .tc := ⟨.hbm, 26, rfl⟩
abbrev main_call5_v0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S640x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x949 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x949 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S16384x128 : Shape := ⟨2, ![16384, 128]⟩
abbrev S128x600 : Shape := ⟨2, ![128, 600]⟩
abbrev S600 : Shape := ⟨1, ![600]⟩
abbrev S600x600 : Shape := ⟨2, ![600, 600]⟩
abbrev S600x56 : Shape := ⟨2, ![600, 56]⟩
abbrev S56 : Shape := ⟨1, ![56]⟩
abbrev S16384x600 : Shape := ⟨2, ![16384, 600]⟩
abbrev S1x600 : Shape := ⟨2, ![1, 600]⟩
abbrev S_ : Shape := ⟨0, ![]⟩
abbrev S16384x56 : Shape := ⟨2, ![16384, 56]⟩
abbrev S1x56 : Shape := ⟨2, ![1, 56]⟩
abbrev S16384x3 : Shape := ⟨2, ![16384, 3]⟩
abbrev S16384 : Shape := ⟨1, ![16384]⟩
abbrev S16384x1 : Shape := ⟨2, ![16384, 1]⟩
abbrev S16384x12 : Shape := ⟨2, ![16384, 12]⟩
abbrev S16384x1x12 : Shape := ⟨3, ![16384, 1, 12]⟩
abbrev S1x16384x1x12 : Shape := ⟨4, ![1, 16384, 1, 12]⟩
abbrev S16384x12x3 : Shape := ⟨3, ![16384, 12, 3]⟩
abbrev S16384x36 : Shape := ⟨2, ![16384, 36]⟩
abbrev S1x16384x1x3 : Shape := ⟨4, ![1, 16384, 1, 3]⟩
abbrev S1x16384x12x3 : Shape := ⟨4, ![1, 16384, 12, 3]⟩
abbrev S16384x26 : Shape := ⟨2, ![16384, 26]⟩
abbrev S16384x36x26 : Shape := ⟨3, ![16384, 36, 26]⟩
abbrev S16384x936 : Shape := ⟨2, ![16384, 936]⟩
abbrev S1x16384x1x26 : Shape := ⟨4, ![1, 16384, 1, 26]⟩
abbrev S1x16384x36x26 : Shape := ⟨4, ![1, 16384, 36, 26]⟩
abbrev S16384x949 : Shape := ⟨2, ![16384, 949]⟩

abbrev nBuf : Space → Nat
  | .hbm => 143
  | .vmem => 0
  | .smem => 0
  | _ => 0

abbrev hbmTy0_0 (i : Nat) : BufTy := match i % 128 with
  | 0 => ⟨S16384x128, .f32⟩
  | 1 => ⟨S128x600, .f32⟩
  | 2 => ⟨S600, .f32⟩
  | 3 => ⟨S600x600, .f32⟩
  | 4 => ⟨S600, .f32⟩
  | 5 => ⟨S600x56, .f32⟩
  | 6 => ⟨S56, .f32⟩
  | 7 => ⟨S16384x600, .f32⟩
  | 8 => ⟨S1x600, .f32⟩
  | 9 => ⟨S16384x600, .f32⟩
  | 10 => ⟨S16384x600, .f32⟩
  | 11 => ⟨S_, .f32⟩
  | 12 => ⟨S16384x600, .f32⟩
  | 13 => ⟨S16384x600, .f32⟩
  | 14 => ⟨S16384x600, .f32⟩
  | 15 => ⟨S1x600, .f32⟩
  | 16 => ⟨S16384x600, .f32⟩
  | 17 => ⟨S16384x600, .f32⟩
  | 18 => ⟨S_, .f32⟩
  | 19 => ⟨S16384x600, .f32⟩
  | 20 => ⟨S16384x600, .f32⟩
  | 21 => ⟨S16384x56, .f32⟩
  | 22 => ⟨S1x56, .f32⟩
  | 23 => ⟨S16384x56, .f32⟩
  | 24 => ⟨S16384x56, .f32⟩
  | 25 => ⟨S16384x3, .f32⟩
  | 26 => ⟨S_, .f32⟩
  | 27 => ⟨S16384x3, .f32⟩
  | 28 => ⟨S16384x3, .f32⟩
  | 29 => ⟨S_, .f32⟩
  | 30 => ⟨S16384, .f32⟩
  | 31 => ⟨S_, .f32⟩
  | 32 => ⟨S16384, .f32⟩
  | 33 => ⟨S16384, .f32⟩
  | 34 => ⟨S16384x1, .f32⟩
  | 35 => ⟨S16384x3, .f32⟩
  | 36 => ⟨S16384x3, .f32⟩
  | 37 => ⟨S16384x3, .f32⟩
  | 38 => ⟨S_, .f32⟩
  | 39 => ⟨S16384, .f32⟩
  | 40 => ⟨S16384x1, .f32⟩
  | 41 => ⟨S16384x3, .f32⟩
  | 42 => ⟨S16384x3, .f32⟩
  | 43 => ⟨S16384x1, .f32⟩
  | 44 => ⟨S16384x1, .f32⟩
  | 45 => ⟨S16384x12, .f32⟩
  | 46 => ⟨S_, .f32⟩
  | 47 => ⟨S16384x12, .f32⟩
  | 48 => ⟨S16384x12, .f32⟩
  | 49 => ⟨S_, .f32⟩
  | 50 => ⟨S16384, .f32⟩
  | 51 => ⟨S_, .f32⟩
  | 52 => ⟨S16384, .f32⟩
  | 53 => ⟨S16384, .f32⟩
  | 54 => ⟨S16384x1, .f32⟩
  | 55 => ⟨S16384x12, .f32⟩
  | 56 => ⟨S16384x12, .f32⟩
  | 57 => ⟨S16384x12, .f32⟩
  | 58 => ⟨S_, .f32⟩
  | 59 => ⟨S16384, .f32⟩
  | 60 => ⟨S16384x1, .f32⟩
  | 61 => ⟨S16384x12, .f32⟩
  | 62 => ⟨S16384x12, .f32⟩
  | 63 => ⟨S16384x1x12, .f32⟩
  | 64 => ⟨S16384x12, .f32⟩
  | 65 => ⟨S1x16384x1x12, .f32⟩
  | 66 => ⟨S1x16384x1x12, .f32⟩
  | 67 => ⟨S16384x12, .f32⟩
  | 68 => ⟨S16384x12, .f32⟩
  | 69 => ⟨S16384x3, .f32⟩
  | 70 => ⟨S_, .f32⟩
  | 71 => ⟨S16384x3, .f32⟩
  | 72 => ⟨S16384x3, .f32⟩
  | 73 => ⟨S_, .f32⟩
  | 74 => ⟨S16384, .f32⟩
  | 75 => ⟨S_, .f32⟩
  | 76 => ⟨S16384, .f32⟩
  | 77 => ⟨S16384, .f32⟩
  | 78 => ⟨S16384x1, .f32⟩
  | 79 => ⟨S16384x3, .f32⟩
  | 80 => ⟨S16384x3, .f32⟩
  | 81 => ⟨S16384x3, .f32⟩
  | 82 => ⟨S_, .f32⟩
  | 83 => ⟨S16384, .f32⟩
  | 84 => ⟨S16384x1, .f32⟩
  | 85 => ⟨S16384x3, .f32⟩
  | 86 => ⟨S16384x3, .f32⟩
  | 87 => ⟨S16384x12x3, .f32⟩
  | 88 => ⟨S16384x36, .f32⟩
  | 89 => ⟨S1x16384x1x3, .f32⟩
  | 90 => ⟨S1x16384x12x3, .f32⟩
  | 91 => ⟨S16384x36, .f32⟩
  | 92 => ⟨S16384x36, .f32⟩
  | 93 => ⟨S16384x26, .f32⟩
  | 94 => ⟨S_, .f32⟩
  | 95 => ⟨S16384x26, .f32⟩
  | 96 => ⟨S16384x26, .f32⟩
  | 97 => ⟨S_, .f32⟩
  | 98 => ⟨S16384, .f32⟩
  | 99 => ⟨S_, .f32⟩
  | 100 => ⟨S16384, .f32⟩
  | 101 => ⟨S16384, .f32⟩
  | 102 => ⟨S16384x1, .f32⟩
  | 103 => ⟨S16384x26, .f32⟩
  | 104 => ⟨S16384x26, .f32⟩
  | 105 => ⟨S16384x26, .f32⟩
  | 106 => ⟨S_, .f32⟩
  | 107 => ⟨S16384, .f32⟩
  | 108 => ⟨S16384x1, .f32⟩
  | 109 => ⟨S16384x26, .f32⟩
  | 110 => ⟨S16384x26, .f32⟩
  | 111 => ⟨S16384x36x26, .f32⟩
  | 112 => ⟨S16384x936, .f32⟩
  | 113 => ⟨S1x16384x1x26, .f32⟩
  | 114 => ⟨S1x16384x36x26, .f32⟩
  | 115 => ⟨S16384x936, .f32⟩
  | 116 => ⟨S16384x936, .f32⟩
  | 117 => ⟨S16384x1, .f32⟩
  | 118 => ⟨S16384x12, .f32⟩
  | 119 => ⟨S_, .f32⟩
  | 120 => ⟨S16384x12, .f32⟩
  | 121 => ⟨S16384x12, .f32⟩
  | 122 => ⟨S_, .f32⟩
  | 123 => ⟨S16384, .f32⟩
  | 124 => ⟨S_, .f32⟩
  | 125 => ⟨S16384, .f32⟩
  | 126 => ⟨S16384, .f32⟩
  | 127 => ⟨S16384x1, .f32⟩
  | _ => ⟨S16384x128, .f32⟩

abbrev hbmTy0_1 (i : Nat) : BufTy := match i % 128 with
  | 0 => ⟨S16384x12, .f32⟩
  | 1 => ⟨S16384x12, .f32⟩
  | 2 => ⟨S16384x12, .f32⟩
  | 3 => ⟨S_, .f32⟩
  | 4 => ⟨S16384, .f32⟩
  | 5 => ⟨S16384x1, .f32⟩
  | 6 => ⟨S16384x12, .f32⟩
  | 7 => ⟨S16384x12, .f32⟩
  | 8 => ⟨S16384x1x12, .f32⟩
  | 9 => ⟨S16384x12, .f32⟩
  | 10 => ⟨S1x16384x1x12, .f32⟩
  | 11 => ⟨S1x16384x1x12, .f32⟩
  | 12 => ⟨S16384x12, .f32⟩
  | 13 => ⟨S16384x12, .f32⟩
  | 14 => ⟨S16384x949, .f32⟩
  | _ => ⟨S16384x128, .f32⟩

abbrev hbmTy (i : Nat) : BufTy := match i / 128 with
  | 0 => hbmTy0_0 i
  | 1 => hbmTy0_1 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_11 : Ref sig .tc := ⟨.hbm, 94, rfl⟩
abbrev main_v71 : Ref sig .tc := ⟨.hbm, 95, rfl⟩
abbrev main_v72 : Ref sig .tc := ⟨.hbm, 96, rfl⟩
abbrev main_cst_12 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_15 : Ref sig .tc := ⟨.hbm, 119, rfl⟩
abbrev main_v92 : Ref sig .tc := ⟨.hbm, 120, rfl⟩
abbrev main_v93 : Ref sig .tc := ⟨.hbm, 121, rfl⟩
abbrev main_cst_16 : Ref sig .tc := ⟨.hbm, 122, rfl⟩
abbrev main_v94 : Ref sig .tc := ⟨.hbm, 123, rfl⟩
abbrev main_cst_17 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_18 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩

abbrev nD : Nat := 1
abbrev τ : Topo := Topo.v7x

variable {F : FTy → Type} [FloatOps F]
-- ==== Proof.Softmax.lean ====
module

public import Idealize.ShloMosaic.PureOps.Ideal
public import Idealize.ShloMosaic.PureOps.Ideal.Laws

@[expose] public section

noncomputable section

namespace Cert.Mlp

open Idealize.ShloMosaic

/-! ## Extended reals that are real numbers -/

/-- The extended real `x` is a real number. -/
def IsReal (x : EReal) : Prop := ∃ r : ℝ, x = (r : EReal)

theorem isReal_zero : IsReal 0 := ⟨0, rfl⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.max {x y : EReal} (hx : IsReal x) (hy : IsReal y) : IsReal (max x y) := by
  rcases max_choice x y with h | h <;> rw [h] <;> assumption

theorem isReal_sum {ι : Type} (s : Finset ι) (f : ι → EReal) (h : ∀ i, IsReal (f i)) : IsReal (∑ i ∈ s, f i) :=
  Finset.sum_induction f IsReal (fun _ _ => IsReal.add) isReal_zero fun i _ => h i

/-- An extended real whose magnitude is below `⊤` is a real number. -/
theorem isReal_of_abs_lt_top {x : EReal} (h : max x (-x) < ⊤) : IsReal x := by
  induction x using EReal.rec with
  | bot => simp at h
  | top => simp at h
  | coe r => exact ⟨r, rfl⟩

/-- A sum of real numbers, taken in the extended reals, is the real sum. -/
theorem coe_sum {ι : Type} (s : Finset ι) (f : ι → ℝ) : ∑ i ∈ s, (f i : EReal) = ((∑ i ∈ s, f i : ℝ) : EReal) :=
  (map_sum (⟨⟨Real.toEReal, EReal.coe_zero⟩, EReal.coe_add⟩ : ℝ →+ EReal) f s).symm

/-- The maximum of finitely many real numbers, at least one, folded from `⊥`, is a real number. -/
theorem isReal_fold_max {ι : Type} [Fintype ι] [Nonempty ι] (f : ι → EReal) (h : ∀ i, IsReal (f i)) :
    IsReal ((Finset.univ : Finset ι).fold max ⊥ f) := by
  obtain ⟨i, _, hi⟩ := Finset.exists_mem_eq_sup (Finset.univ : Finset ι) Finset.univ_nonempty f
  have e : (Finset.univ : Finset ι).fold max ⊥ f = f i := hi
  rw [e]; exact h i

/-- A sum over `Fin m` whose terms vanish from `n` on is the sum over the first `n`. -/
theorem sum_pad {n m : Nat} (hnm : n ≤ m) (f : Fin m → EReal) (h : ∀ k : Fin m, n ≤ k.val → f k = 0) :
    ∑ k : Fin m, f k = ∑ k : Fin n, f (Fin.castLE hnm k) := by
  refine Eq.trans (Finset.sum_subset (Finset.subset_univ (Finset.univ.map (Fin.castLEEmb hnm))) fun k _ hk => h k ?_).symm
    (Finset.sum_map Finset.univ (Fin.castLEEmb hnm) f)
  by_contra hlt
  exact hk (Finset.mem_map.mpr ⟨⟨k.val, by omega⟩, Finset.mem_univ _, Fin.ext rfl⟩)

/-! ## The softmax of a row of real numbers, shifted by any real number -/

/-- The elementary functions at a real number. -/
theorem exp_sub (a m : ℝ) : Ideal.exp ((a : EReal) - (m : EReal)) = ((Real.exp (a - m) : ℝ) : EReal) := by
  rw [← EReal.coe_sub]; rfl

theorem log_of_pos {a : ℝ} (h : 0 < a) : Ideal.log (a : EReal) = ((Real.log a : ℝ) : EReal) := by
  show (if a ≤ 0 then (⊥ : EReal) else (Real.log a : EReal)) = _
  rw [if_neg (not_le.mpr h)]

theorem div_of_pos (a : ℝ) {b : ℝ} (h : 0 < b) : Ideal.div (a : EReal) (b : EReal) = ((a / b : ℝ) : EReal) := by
  unfold Ideal.div
  rw [if_neg (by rw [← EReal.coe_zero]; exact fun e => h.ne' (EReal.coe_eq_coe_iff.mp e)), div_eq_mul_inv,
    EReal.coe_mul, EReal.coe_inv]

/-- A softmax: the exponentials of the shifted row over their sum do not depend on the shift. -/
theorem softmax_eq {n : Nat} (x : Fin n → ℝ) (m : ℝ) (k : Fin n) :
    Ideal.div (Ideal.exp ((x k : EReal) - (m : EReal))) (∑ j, Ideal.exp ((x j : EReal) - (m : EReal)))
      = ((Real.exp (x k) / ∑ j, Real.exp (x j) : ℝ) : EReal) := by
  have hp : 0 < ∑ j, Real.exp (x j - m) := Finset.sum_pos (fun j _ => Real.exp_pos _) ⟨k, Finset.mem_univ k⟩
  simp only [exp_sub]
  rw [coe_sum, div_of_pos _ hp]
  simp only [Real.exp_sub]
  rw [← Finset.sum_div, div_div_div_cancel_right₀ (Real.exp_pos m).ne']

/-- The probability of entry `k` of the row `x` within its group: its exponential over the sum of the exponentials
    of the entries with the same group number. -/
def prob {n : Nat} (g : Fin n → Nat) (x : Fin n → ℝ) (k : Fin n) : ℝ :=
  Real.exp (x k) / ∑ j with g j = g k, Real.exp (x j)

theorem groupSum_pos {n : Nat} (g : Fin n → Nat) (x : Fin n → ℝ) (k : Fin n) :
    0 < ∑ j with g j = g k, Real.exp (x j) :=
  Finset.sum_pos (fun j _ => Real.exp_pos _) ⟨k, Finset.mem_filter.mpr ⟨Finset.mem_univ k, rfl⟩⟩

theorem prob_pos {n : Nat} (g : Fin n → Nat) (x : Fin n → ℝ) (k : Fin n) : 0 < prob g x k :=
  div_pos (Real.exp_pos _) (groupSum_pos g x k)

/-- A sum of real numbers each multiplied by a one or a zero is the sum of those multiplied by a one. -/
theorem sum_mul_indicator {ι : Type} [Fintype ι] (f : ι → ℝ) (p : ι → Prop) [DecidablePred p] :
    ∑ j, (f j : EReal) * (if p j then (1 : EReal) else 0) = ((∑ j with p j, f j : ℝ) : EReal) := by
  rw [Finset.sum_filter, ← coe_sum]
  refine Finset.sum_congr rfl fun j _ => ?_
  split <;> simp

/-- The kernel's logarithm of a probability: the shifted entry less the logarithm of its group's sum of
    exponentials of shifted entries. -/
theorem logProb_eq {n : Nat} (g : Fin n → Nat) (x : Fin n → ℝ) (m : ℝ) (k : Fin n) :
    ((x k : EReal) - (m : EReal))
        - Ideal.log (∑ j, Ideal.exp ((x j : EReal) - (m : EReal)) * (if g j = g k then (1 : EReal) else 0))
      = ((Real.log (prob g x k) : ℝ) : EReal) := by
  have hs := groupSum_pos g x k
  have hm := Real.exp_pos m
  simp only [exp_sub]
  rw [sum_mul_indicator (fun j => Real.exp (x j - m))]
  simp only [Real.exp_sub]
  rw [← Finset.sum_div, log_of_pos (div_pos hs hm), Real.log_div hs.ne' hm.ne', Real.log_exp, ← EReal.coe_sub,
    ← EReal.coe_sub, prob, Real.log_div (Real.exp_pos _).ne' hs.ne', Real.log_exp]
  congr 1; ring

/-- The exponential of the sum of the chosen logarithms is the product of the chosen numbers. -/
theorem exp_sum_log {ι : Type} [Fintype ι] (f : ι → ℝ) (hf : ∀ j, 0 < f j) (p : ι → Prop) [DecidablePred p] :
    Ideal.exp (∑ j, ((Real.log (f j) : ℝ) : EReal) * (if p j then (1 : EReal) else 0)) = ((∏ j with p j, f j : ℝ) : EReal) := by
  rw [sum_mul_indicator]
  show ((Real.exp (∑ j with p j, Real.log (f j)) : ℝ) : EReal) = _
  rw [Real.exp_sum]
  congr 1
  exact Finset.prod_congr rfl fun j _ => Real.exp_log (hf j)

/-- Where the entries with `k`'s group number are `n` consecutive ones from `o` on, the probability within the group
    is the softmax of those `n` entries. -/
theorem prob_eq_softmax {N n : Nat} (g : Fin N → Nat) (x : Fin N → ℝ) (o : Nat) (k : Fin n) (ho : o + n ≤ N)
    (hg : ∀ j : Fin N, g j = g ⟨o + k.val, by omega⟩ ↔ o ≤ j.val ∧ j.val < o + n) :
    prob g x ⟨o + k.val, by omega⟩
      = Real.exp (x ⟨o + k.val, by omega⟩) / ∑ j : Fin n, Real.exp (x ⟨o + j.val, by omega⟩) := by
  unfold prob
  congr 1
  symm
  refine Finset.sum_bij (fun (j : Fin n) _ => (⟨o + j.val, by omega⟩ : Fin N)) ?_ ?_ ?_ fun _ _ => rfl
  · intro j _; rw [Finset.mem_filter]; exact ⟨Finset.mem_univ _, (hg _).mpr ⟨Nat.le_add_right _ _, by have := j.isLt; show o + j.val < o + n; omega⟩⟩
  · intro a _ b _ h; have := congrArg Fin.val h; exact Fin.ext (by simpa using this)
  · intro j hj
    obtain ⟨h1, h2⟩ := (hg j).mp (Finset.mem_filter.mp hj).2
    exact ⟨⟨j.val - o, by omega⟩, Finset.mem_univ _, Fin.ext (by show o + (j.val - o) = j.val; omega)⟩

/-- The reference's softmax of a segment: entries `o` to `o + n - 1` of `l`, each less the segment's maximum, exponentiated
    and divided by the sum. Its entry `k` is the probability of entry `o + k` of `l`. -/
theorem softmax_segment {N n : Nat} {g : Fin N → Nat} (l : Fin N → ℝ) (o : Nat) (x : Fin n → EReal) {k : Fin n}
    (ho : o + n ≤ N) (hx : ∀ j : Fin n, x j = (l ⟨o + j.val, by omega⟩ : EReal))
    (hg : ∀ j : Fin N, g j = g ⟨o + k.val, by omega⟩ ↔ o ≤ j.val ∧ j.val < o + n) :
    Ideal.div (Ideal.exp (x k - max ⊥ ((Finset.univ : Finset (Fin n)).fold max ⊥ x)))
        (∑ j, Ideal.exp (x j - max ⊥ ((Finset.univ : Finset (Fin n)).fold max ⊥ x)))
      = (prob g l ⟨o + k.val, by omega⟩ : EReal) := by
  haveI : Nonempty (Fin n) := ⟨k⟩
  obtain ⟨m, hm⟩ := isReal_fold_max x fun j => ⟨_, hx j⟩
  rw [hm, max_eq_right bot_le]
  simp only [hx]
  rw [softmax_eq (fun j : Fin n => l ⟨o + j.val, by omega⟩) m k, prob_eq_softmax g l o k ho hg]

end Cert.Mlp

end
-- ==== Proof.Finite.lean ====
module

public import proofs.«01_k».proof.Pre_finite
public import proofs.«01_k».proof.Proof.Softmax
public import Idealize.ShloMosaic.Lib.Decide
public import Idealize.ShloMosaic.Lib.ReduceAll

@[expose] public section

noncomputable section

namespace Cert.Pre_finite

open Cert.Mlp Idealize.ShloMosaic

/-! ## What the precondition says of the arguments -/

/-- The precondition's shape relations. -/
theorem facts : Facts where
  bcast_S_S16384x128 := by decide
  reducesTo_S16384x128_S_d0_1 := by decide
  h_S_ := by decide
  bcast_S_S128x600 := by decide
  reducesTo_S128x600_S_d0_1 := by decide
  bcast_S_S600 := by decide
  reducesTo_S600_S_d0 := by decide
  bcast_S_S600x600 := by decide
  reducesTo_S600x600_S_d0_1 := by decide
  bcast_S_S600x56 := by decide
  reducesTo_S600x56_S_d0_1 := by decide
  bcast_S_S56 := by decide
  reducesTo_S56_S_d0 := by decide

variable [Facts]

/-- The pattern of the bound is the greatest extended real. -/
theorem ofBits_inf : Ideal.ofBits .f32 0x7F800000#32 = ⊤ := by
  simp [Ideal.ofBits, Ideal.ieee]

instance : Subsingleton S_.Idx := ⟨fun a b => funext fun i => i.elim0⟩

/-- An array whose magnitudes all pass the comparison with the bound holds real numbers. -/
theorem isReal_of_all {s : Shape} {axes : List (Fin s.rank)} (x : FVec Ideal s .f32)
    (hb : S_.BroadcastsInDim s (![] : Fin 0 → Fin s.rank)) (hr : s.ReducesTo axes S_) (hu : 0 < S_.numel) (j : S_.Idx)
    (h : Host.reduce IntOp.andi
      (cmpf .olt (Host.absf x) (broadcastInDim s ![] hb (constant (F := Ideal) S_ .f32 0x7F800000#32)))
      (constantI S_ 1 1#1) hr hu j = 1#1) (i : s.Idx) : IsReal (x i) := by
  have e : Ideal.cmp .olt (max (x i) (-(x i))) (Ideal.ofBits .f32 0x7F800000#32) = 1#1 :=
    Host.reduce_andi_all _ _ hr hu j h i
  rw [ofBits_inf] at e
  refine isReal_of_abs_lt_top ?_
  by_contra hn
  simp [Ideal.cmp, hn] at e

/-- Under the precondition every argument holds real numbers only. -/
theorem isReal_args (x0 : FVec Ideal S16384x128 .f32) (x1 : FVec Ideal S128x600 .f32) (x2 : FVec Ideal S600 .f32)
    (x3 : FVec Ideal S600x600 .f32) (x4 : FVec Ideal S600 .f32) (x5 : FVec Ideal S600x56 .f32)
    (x6 : FVec Ideal S56 .f32) (h : fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ ∀ i, IsReal (x6 i) := by
  have e := congrFun h (fun i => i.elim0)
  unfold fn fn_part1 at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all x0 _ _ _ _ e0, isReal_of_all x1 _ _ _ _ e1, isReal_of_all x2 _ _ _ _ e2,
    isReal_of_all x3 _ _ _ _ e3, isReal_of_all x4 _ _ _ _ e4, isReal_of_all x5 _ _ _ _ e5,
    isReal_of_all x6 _ _ _ _ e6⟩

end Cert.Pre_finite

end
-- ==== Proof.Columns.lean ====
module

public import proofs.«01_k».proof.Proof.Softmax

@[expose] public section

noncomputable section

namespace Cert.Mlp

/-- The probability of logit `k` is a factor of output column `c`: the selection table's ones. -/
def picked (k c : Nat) : Bool :=
  if c = 0 then k == 0
  else if c < 937 then
    k == 1 || k == 3 + (c - 1) / 78 || k == 15 + (c - 1) / 26 % 3 || k == 18 + (c - 1) % 26
  else k == 2 || k == 44 + (c - 937)

/-- The number of the softmax group that logit `k` belongs to; each padding column is a group of its own. -/
def group (k : Nat) : Nat :=
  if k < 3 then 0 else if k < 15 then 1 else if k < 18 then 2 else if k < 44 then 3 else if k < 56 then 4 else k

/-- The factors of output column 0: the first action type alone. -/
theorem prod_picked_first (f : Fin 64 → ℝ) : ∏ k : Fin 64 with picked k.val 0, f k = f 0 := by
  have e : (Finset.univ.filter fun k : Fin 64 => picked k.val 0) = {0} := by decide +kernel
  rw [e, Finset.prod_singleton]

/-- The factors of output column `1 + j`, `j` below 936: the second action type, and the entry of each of its three
    segments that `j` counts to. -/
theorem prod_picked_second (f : Fin 64 → ℝ) (j : Fin 936) :
    ∏ k : Fin 64 with picked k.val (1 + j.val), f k
      = f 1 * f ⟨3 + j.val / 78, by omega⟩ * f ⟨15 + j.val / 26 % 3, by omega⟩ * f ⟨18 + j.val % 26, by omega⟩ := by
  have e : (Finset.univ.filter fun k : Fin 64 => picked k.val (1 + j.val))
      = {1, ⟨3 + j.val / 78, by omega⟩, ⟨15 + j.val / 26 % 3, by omega⟩, ⟨18 + j.val % 26, by omega⟩} := by
    ext k
    rw [Finset.mem_filter, picked]
    simp only [Finset.mem_univ, true_and, Finset.mem_insert, Finset.mem_singleton, Fin.ext_iff]
    rw [if_neg (by omega), if_pos (by omega)]
    simp [or_assoc]
  rw [e, Finset.prod_insert, Finset.prod_insert, Finset.prod_insert, Finset.prod_singleton, mul_assoc, mul_assoc]
  all_goals simp [Fin.ext_iff] <;> omega

/-- The factors of output column `937 + j`: the third action type, and entry `j` of its segment. -/
theorem prod_picked_third (f : Fin 64 → ℝ) (j : Fin 12) :
    ∏ k : Fin 64 with picked k.val (937 + j.val), f k = f 2 * f ⟨44 + j.val, by omega⟩ := by
  have e : (Finset.univ.filter fun k : Fin 64 => picked k.val (937 + j.val)) = {2, ⟨44 + j.val, by omega⟩} := by
    ext k
    rw [Finset.mem_filter, picked]
    simp only [Finset.mem_univ, true_and, Finset.mem_insert, Finset.mem_singleton, Fin.ext_iff]
    rw [if_neg (by omega), if_neg (by omega)]
    simp
  rw [e, Finset.prod_insert, Finset.prod_singleton]
  simp [Fin.ext_iff]; omega

end Cert.Mlp

end
-- ==== Proof.Block.lean ====
module

public import proofs.«01_k».proof.Proof.Softmax
public import proofs.«01_k».proof.Proof.Columns
public import proofs.«01_k».proof.Proof.Gen.KernelIdeal.Frame
public import Idealize.ShloMosaic.Lib.Pointwise
public import Idealize.ShloMosaic.Lib.Pipeline.Value

@[expose] public section

noncomputable section

namespace Cert.KernelIdeal.Block

open Cert.KernelIdeal Cert.KernelIdeal.Gen Cert.Mlp Idealize.ShloMosaic

/-! ## What one grid point computes from its blocks -/

section

variable (x0 : Vec Ideal S1024x128 .f32) (x1 : Vec Ideal S128x640 .f32) (x2 : Vec Ideal S1x640 .f32)
  (x3 : Vec Ideal S640x640 .f32) (x4 : Vec Ideal S1x640 .f32) (x5 : Vec Ideal S640x64 .f32)
  (x6 : Vec Ideal S1x64 .f32)

/-- The first hidden layer of row `r`, at unit `j` of the 640 padded ones. -/
def hidden1 (r : Fin 1024) (j : Fin 640) : EReal :=
  max (∑ k : Fin 128, x0 (ix2 r k) * x1 (ix2 k j) + x2 (ix2 0 j)) 0

/-- The second hidden layer of row `r`, at unit `j` of the 640 padded ones. -/
def hidden2 (r : Fin 1024) (j : Fin 640) : EReal :=
  max (∑ k : Fin 640, hidden1 x0 x1 x2 r k * x3 (ix2 k j) + x4 (ix2 0 j)) 0

/-- Logit `k` of row `r`, of the 64 padded ones. -/
def logit (r : Fin 1024) (k : Fin 64) : EReal :=
  ∑ j : Fin 640, hidden2 x0 x1 x2 x3 x4 r j * x5 (ix2 j k) + x6 (ix2 0 k)

/-- The pattern of the maximum's initial value is the least extended real. -/
theorem ofBits_negInf : Ideal.ofBits .f32 0xFF800000#32 = ⊥ := by
  simp [Ideal.ofBits, Ideal.ieee]

/-- The first payload: the logits of a row less their maximum. -/
theorem shifted_apply (r : Fin 1024) (k : Fin 64) :
    k0_pay2 x0 x1 x2 x3 x4 x5 x6 (ix2 r k)
      = logit x0 x1 x2 x3 x4 x5 x6 r k
        - (Finset.univ : Finset (Fin 64)).fold max ⊥ (logit x0 x1 x2 x3 x4 x5 x6 r) := by
  unfold k0_pay2
  pointwise
  rw [ofBits_negInf]
  rfl

/-- The second payload: the exponentials of the first. -/
theorem expShifted_apply (r : Fin 1024) (k : Fin 64) :
    k0_pay3 x0 x1 x2 x3 x4 x5 x6 (ix2 r k) = Ideal.exp (k0_pay2 x0 x1 x2 x3 x4 x5 x6 (ix2 r k)) := by
  unfold k0_pay3
  generalize k0_pay2 x0 x1 x2 x3 x4 x5 x6 = s
  rfl

end

set_option maxHeartbeats 2000000 in
/-- The last payload: the exponential of the selected sum of the logarithms of the probabilities. -/
theorem out_apply (s e : FVec Ideal S1024x64 .f32) (g : Vec Ideal S64x64 .f32) (w : Vec Ideal S64x949 .f32)
    (r : Fin 1024) (c : Fin 949) :
    k0_pay1 s e g w (ix2 r c)
      = Ideal.exp (∑ k : Fin 64, (s (ix2 r k) - Ideal.log (∑ j : Fin 64, e (ix2 r j) * g (ix2 j k))) * w (ix2 k c)) := by
  unfold k0_pay1
  pointwise

/-- What a grid point leaves in its output block, where the logits of its rows are the real numbers `l` and its two
    tables are the group table and the selection table: at row `r` and column `c`, the product of the probabilities
    selected by column `c`. -/
theorem out0_9_apply (x0 : Vec Ideal S1024x128 .f32) (x1 : Vec Ideal S128x640 .f32) (x2 : Vec Ideal S1x640 .f32)
    (x3 : Vec Ideal S640x640 .f32) (x4 : Vec Ideal S1x640 .f32) (x5 : Vec Ideal S640x64 .f32)
    (x6 : Vec Ideal S1x64 .f32) (x7 : Vec Ideal S64x949 .f32) (x8 : Vec Ideal S64x64 .f32)
    (r : Fin 1024) (c : Fin 949) (l : Fin 64 → ℝ)
    (hl : ∀ k, logit x0 x1 x2 x3 x4 x5 x6 r k = (l k : EReal))
    (hsel : ∀ k, x7 (ix2 k c) = if picked k.val c.val then (1 : EReal) else 0)
    (hgrp : ∀ j k, x8 (ix2 j k) = if group j.val = group k.val then (1 : EReal) else 0) :
    out0_9 x0 x1 x2 x3 x4 x5 x6 x7 x8 (ix2 r c)
      = ((∏ k : Fin 64 with picked k.val c.val, prob (fun k : Fin 64 => group k.val) l k : ℝ) : EReal) := by
  have h0 : (![0, 0] : Fin 2 → Nat) = fun _ => 0 := by decide
  unfold out0_9
  rw [View.canon_unit_zero (S := S1024x949) h0, View.ld_unit_zero (S := S1024x128) h0,
    View.ld_unit_zero (S := S128x640) h0, View.ld_unit_zero (S := S1x640) h0, View.ld_unit_zero (S := S640x640) h0,
    View.ld_unit_zero (S := S1x640) h0, View.ld_unit_zero (S := S640x64) h0, View.ld_unit_zero (S := S1x64) h0,
    View.ld_unit_zero (S := S64x64) h0, View.ld_unit_zero (S := S64x949) h0]
  obtain ⟨m, hm⟩ := isReal_fold_max (logit x0 x1 x2 x3 x4 x5 x6 r) fun k => ⟨l k, hl k⟩
  rw [out_apply]
  simp only [expShifted_apply, shifted_apply, hm]
  simp only [hl, hsel, hgrp]
  simp only [logProb_eq (fun k : Fin 64 => group k.val) l m]
  exact exp_sum_log _ (prob_pos _ l) fun k : Fin 64 => picked k.val c.val = true

end Cert.KernelIdeal.Block

end
-- ==== Proof.Tables.lean ====
module

public import proofs.«01_k».proof.KernelIdeal
public import proofs.«01_k».proof.Proof.Columns
public import Mathlib.Tactic.FinCases

@[expose] public section

noncomputable section

namespace Cert.KernelIdeal

open Cert.Mlp

set_option maxHeartbeats 4000000 in
/-- Four rows of the printed selection table: every entry is the word of one or of zero, as `picked` says. -/
theorem lit0t_rows (b : Fin 16) : ∀ (r : Fin 4) (c : Fin 949),
    lit0t ((4 * b.val + r.val) * 949 + c.val)
      = if picked (4 * b.val + r.val) c.val then 0x3F800000#32 else 0x00000000#32 := by
  fin_cases b <;> decide +kernel

/-- Every entry of the printed selection table is the word of one or of zero, as `picked` says. -/
theorem lit0t_eq (k : Fin 64) (c : Fin 949) :
    lit0t (k.val * 949 + c.val) = if picked k.val c.val then 0x3F800000#32 else 0x00000000#32 := by
  have h := lit0t_rows ⟨k.val / 4, by omega⟩ ⟨k.val % 4, by omega⟩ c
  simp only [show 4 * (k.val / 4) + k.val % 4 = k.val by omega] at h
  exact h

set_option maxHeartbeats 1000000 in
/-- Every entry of the printed group table is the word of one where row and column are of the same group, and of
    zero elsewhere. -/
theorem lit1t_eq : ∀ k j : Fin 64,
    lit1t (k.val * 64 + j.val) = if group k.val = group j.val then 0x3F800000#32 else 0x00000000#32 := by
  decide +kernel

end Cert.KernelIdeal

end
-- ==== Proof.Entry.lean ====
module

public import proofs.«01_k».proof.Proof.Gen.KernelIdeal.Value
public import proofs.«01_k».proof.Proof.Tables
public import Idealize.ShloMosaic.Lib.Pointwise
public import Idealize.ShloMosaic.Lib.Claim
public import Idealize.ShloMosaic.Lib.StableHlo.ReadAt
public import Idealize.ShloMosaic.Lib.Pipeline.ValueKit

@[expose] public section

noncomputable section

namespace Cert.KernelIdeal.Entry

open Cert.KernelIdeal Cert.KernelIdeal.Gen Cert.Mlp Idealize.ShloMosaic Idealize.ShloMosaic.TcCoe

variable (m : (ℓ : Loc nD τ sig) → Buf (Elt Ideal) ℓ) (c : Dev nD)

/-! ## The arguments, as arrays of extended reals -/

/-- The observations. -/
abbrev obs : S16384x128.Idx → EReal := m ((c : Thread nD τ).loc main_arg0)
/-- The first layer's weights. -/
abbrev weights1 : S128x600.Idx → EReal := m ((c : Thread nD τ).loc main_arg1)
/-- The first layer's biases. -/
abbrev bias1 : S600.Idx → EReal := m ((c : Thread nD τ).loc main_arg2)
/-- The second layer's weights. -/
abbrev weights2 : S600x600.Idx → EReal := m ((c : Thread nD τ).loc main_arg3)
/-- The second layer's biases. -/
abbrev bias2 : S600.Idx → EReal := m ((c : Thread nD τ).loc main_arg4)
/-- The third layer's weights. -/
abbrev weights3 : S600x56.Idx → EReal := m ((c : Thread nD τ).loc main_arg5)
/-- The third layer's biases. -/
abbrev bias3 : S56.Idx → EReal := m ((c : Thread nD τ).loc main_arg6)

/-- The padding value of every padded array: the integer zero, converted. -/
theorem sitofp_zero : (FloatOps.sitofp .f32 (0#32) : Ideal .f32) = (0 : EReal) := by
  show (((0#32 : BitVec 32).toInt : ℝ) : EReal) = 0
  simp

/-! ## The arrays the windows read, when the kernel starts: the arguments padded with zeros, and the two tables -/

/-- The first layer's weights: 40 more columns. -/
theorem entry_weights1 (k : Fin 128) (j : Fin 640) :
    (V m c main_v0 : S128x640.Idx → EReal) (ix2 k j)
      = if h : j.val < 600 then weights1 m c (ix2 k ⟨j.val, h⟩) else 0 := by
  unfold V
  after_reads_at
  rw [sitofp_zero]

/-- The first layer's biases, as a row. -/
theorem entry_bias1 (j : Fin 640) :
    (V m c main_v2 : S1x640.Idx → EReal) (ix2 0 j) = if h : j.val < 600 then bias1 m c (ix1 ⟨j.val, h⟩) else 0 := by
  unfold V
  after_reads_at
  rw [sitofp_zero]

/-- The second layer's weights: 40 more rows and 40 more columns. -/
theorem entry_weights2 (k : Fin 640) (j : Fin 640) :
    (V m c main_v3 : S640x640.Idx → EReal) (ix2 k j)
      = if h : k.val < 600 ∧ j.val < 600 then weights2 m c (ix2 ⟨k.val, h.1⟩ ⟨j.val, h.2⟩) else 0 := by
  unfold V
  after_reads_at
  rw [sitofp_zero]

/-- The second layer's biases, as a row. -/
theorem entry_bias2 (j : Fin 640) :
    (V m c main_v5 : S1x640.Idx → EReal) (ix2 0 j) = if h : j.val < 600 then bias2 m c (ix1 ⟨j.val, h⟩) else 0 := by
  unfold V
  after_reads_at
  rw [sitofp_zero]

/-- The third layer's weights: 40 more rows and 8 more columns. -/
theorem entry_weights3 (k : Fin 640) (j : Fin 64) :
    (V m c main_v6 : S640x64.Idx → EReal) (ix2 k j)
      = if h : k.val < 600 ∧ j.val < 56 then weights3 m c (ix2 ⟨k.val, h.1⟩ ⟨j.val, h.2⟩) else 0 := by
  unfold V
  after_reads_at
  rw [sitofp_zero]

/-- The third layer's biases, as a row. -/
theorem entry_bias3 (j : Fin 64) :
    (V m c main_v8 : S1x64.Idx → EReal) (ix2 0 j) = if h : j.val < 56 then bias3 m c (ix1 ⟨j.val, h⟩) else 0 := by
  unfold V
  after_reads_at
  rw [sitofp_zero]

/-- The pattern of one reads one. -/
theorem ofBits_one : Ideal.ofBits .f32 0x3F800000#32 = (1 : EReal) := by
  simp [Ideal.ofBits, Ideal.ieee, -EReal.coe_mul]
  norm_num

/-- A printed table entry, chosen between the patterns of one and zero, is one or zero. -/
theorem ofBits_bit (p : Prop) [Decidable p] :
    Ideal.ofBits .f32 (if p then 0x3F800000#32 else 0x00000000#32) = if p then (1 : EReal) else 0 := by
  split
  · exact ofBits_one
  · simp [Ideal.ofBits, Ideal.ieee]

/-- The selection table. -/
theorem entry_selection (k : Fin 64) (j : Fin 949) :
    (V m c main_cst : S64x949.Idx → EReal) (ix2 k j) = if picked k.val j.val then (1 : EReal) else 0 := by
  unfold V
  after_reads_at
  have e : S64x949.rowMajor (ix2 k j) = k.val * 949 + j.val := Shape.rowMajor_val_two _
  show Ideal.ofBits .f32 (lit0t (S64x949.rowMajor (ix2 k j))) = _
  rw [e, lit0t_eq, ofBits_bit]

/-- The group table. -/
theorem entry_groups (k j : Fin 64) :
    (V m c main_cst_0 : S64x64.Idx → EReal) (ix2 k j) = if group k.val = group j.val then (1 : EReal) else 0 := by
  unfold V
  after_reads_at
  have e : S64x64.rowMajor (ix2 k j) = k.val * 64 + j.val := Shape.rowMajor_val_two _
  show Ideal.ofBits .f32 (lit1t (S64x64.rowMajor (ix2 k j))) = _
  rw [e, lit1t_eq, ofBits_bit]

/-! ## The blocks of one grid point -/

/-- Point `t`'s block of observations starts at row `1024 t`. -/
theorem index0 : ∀ t : Fin cfg0.N, win0_0.index t = ![t.val, 0] :=
  (by decide +kernel : ∀ t : Fin grid0.N, win0_0.index t = ![t.val, 0])

/-- Row `r` of point `t`'s block of observations is row `1024 t + r` of the observations. -/
theorem block_obs (t : Fin cfg0.N) (r : Fin 1024) (k : Fin 128) (row : Fin 16384)
    (hrow : row.val = t.val * 1024 + r.val) :
    (iblk m c 0 t : S1024x128.Idx → EReal) (ix2 r k) = obs m c (ix2 row k) := by
  blk_ext! [iblk, V, index0 t]

theorem index1 : ∀ t : Fin cfg0.N, win0_1.index t = ![0, 0] :=
  (by decide +kernel : ∀ t : Fin grid0.N, win0_1.index t = ![0, 0])

/-- Window 1's block is its whole array at every point. -/
theorem block1 (t : Fin cfg0.N) : iblk m c 1 t = V m c main_v0 := by
  funext x
  blk_ext [iblk, index1 t]

theorem index2 : ∀ t : Fin cfg0.N, win0_2.index t = ![0, 0] :=
  (by decide +kernel : ∀ t : Fin grid0.N, win0_2.index t = ![0, 0])

/-- Window 2's block is its whole array at every point. -/
theorem block2 (t : Fin cfg0.N) : iblk m c 2 t = V m c main_v2 := by
  funext x
  blk_ext [iblk, index2 t]

theorem index3 : ∀ t : Fin cfg0.N, win0_3.index t = ![0, 0] :=
  (by decide +kernel : ∀ t : Fin grid0.N, win0_3.index t = ![0, 0])

/-- Window 3's block is its whole array at every point. -/
theorem block3 (t : Fin cfg0.N) : iblk m c 3 t = V m c main_v3 := by
  funext x
  blk_ext [iblk, index3 t]

theorem index4 : ∀ t : Fin cfg0.N, win0_4.index t = ![0, 0] :=
  (by decide +kernel : ∀ t : Fin grid0.N, win0_4.index t = ![0, 0])

/-- Window 4's block is its whole array at every point. -/
theorem block4 (t : Fin cfg0.N) : iblk m c 4 t = V m c main_v5 := by
  funext x
  blk_ext [iblk, index4 t]

theorem index5 : ∀ t : Fin cfg0.N, win0_5.index t = ![0, 0] :=
  (by decide +kernel : ∀ t : Fin grid0.N, win0_5.index t = ![0, 0])

/-- Window 5's block is its whole array at every point. -/
theorem block5 (t : Fin cfg0.N) : iblk m c 5 t = V m c main_v6 := by
  funext x
  blk_ext [iblk, index5 t]

theorem index6 : ∀ t : Fin cfg0.N, win0_6.index t = ![0, 0] :=
  (by decide +kernel : ∀ t : Fin grid0.N, win0_6.index t = ![0, 0])

/-- Window 6's block is its whole array at every point. -/
theorem block6 (t : Fin cfg0.N) : iblk m c 6 t = V m c main_v8 := by
  funext x
  blk_ext [iblk, index6 t]

theorem index7 : ∀ t : Fin cfg0.N, win0_7.index t = ![0, 0] :=
  (by decide +kernel : ∀ t : Fin grid0.N, win0_7.index t = ![0, 0])

/-- Window 7's block is its whole array at every point. -/
theorem block7 (t : Fin cfg0.N) : iblk m c 7 t = V m c main_cst := by
  funext x
  blk_ext [iblk, index7 t]

theorem index8 : ∀ t : Fin cfg0.N, win0_8.index t = ![0, 0] :=
  (by decide +kernel : ∀ t : Fin grid0.N, win0_8.index t = ![0, 0])

/-- Window 8's block is its whole array at every point. -/
theorem block8 (t : Fin cfg0.N) : iblk m c 8 t = V m c main_cst_0 := by
  funext x
  blk_ext [iblk, index8 t]

end Cert.KernelIdeal.Entry

end
-- ==== Proof.Layers.lean ====
module

public import proofs.«01_k».proof.Proof.Softmax
public import Idealize.ShloMosaic.Lib.Pointwise

@[expose] public section

noncomputable section

namespace Cert.Mlp

open Idealize.ShloMosaic

/-! ## The three layers, and the same layers padded with zeros -/

/-- One layer without its activation: the row `x` times the weights `w`, plus the biases `b`. -/
def dense {n p : Nat} (x : Fin n → EReal) (w : Fin n → Fin p → EReal) (b : Fin p → EReal) (j : Fin p) : EReal :=
  ∑ k, x k * w k j + b j

/-- The activation of a row. -/
def relu {n : Nat} (x : Fin n → EReal) (j : Fin n) : EReal := max (x j) 0

theorem isReal_dense {n p : Nat} {x : Fin n → EReal} {w : Fin n → Fin p → EReal} {b : Fin p → EReal}
    (hx : ∀ k, IsReal (x k)) (hw : ∀ k j, IsReal (w k j)) (hb : ∀ j, IsReal (b j)) (j : Fin p) :
    IsReal (dense x w b j) :=
  (isReal_sum _ _ fun k => (hx k).mul (hw k j)).add (hb j)

theorem isReal_relu {n : Nat} {x : Fin n → EReal} (hx : ∀ k, IsReal (x k)) (j : Fin n) : IsReal (relu x j) :=
  (hx j).max isReal_zero

/-- `x'` is `x` continued by zeros. -/
def Pads {n n' : Nat} (x : Fin n → EReal) (x' : Fin n' → EReal) : Prop :=
  ∀ j, x' j = if h : j.val < n then x ⟨j.val, h⟩ else 0

/-- `w'` is `w` continued by rows and columns of zeros. -/
def Pads2 {n n' p p' : Nat} (w : Fin n → Fin p → EReal) (w' : Fin n' → Fin p' → EReal) : Prop :=
  ∀ k j, w' k j = if h : k.val < n ∧ j.val < p then w ⟨k.val, h.1⟩ ⟨j.val, h.2⟩ else 0

/-- A padded layer of a padded row is the padded layer of the row: the rows of zeros meet the padding, and the columns of
    zeros give zeros. -/
theorem Pads.dense {n n' p p' : Nat} {x : Fin n → EReal} {x' : Fin n' → EReal} {w : Fin n → Fin p → EReal}
    {w' : Fin n' → Fin p' → EReal} {b : Fin p → EReal} {b' : Fin p' → EReal} (hn : n ≤ n') (hx : Pads x x')
    (hw : Pads2 w w') (hb : Pads b b') : Pads (Cert.Mlp.dense x w b) (Cert.Mlp.dense x' w' b') := by
  intro j
  unfold Cert.Mlp.dense
  rw [hb j, sum_pad hn (fun k => x' k * w' k j) fun k hk => by rw [hw k j, dif_neg (by omega), mul_zero]]
  split
  · rename_i h
    congr 1
    refine Finset.sum_congr rfl fun k _ => ?_
    rw [hx, hw, dif_pos (by exact k.isLt), dif_pos ⟨k.isLt, h⟩]
    rfl
  · rename_i h
    rw [add_zero]
    refine Finset.sum_eq_zero fun k _ => ?_
    rw [hw, dif_neg (by tauto), mul_zero]

/-- The activation of a padded row is the padded activation of the row. -/
theorem Pads.relu {n n' : Nat} {x : Fin n → EReal} {x' : Fin n' → EReal} (hx : Pads x x') :
    Pads (Cert.Mlp.relu x) (Cert.Mlp.relu x') := by
  intro j
  unfold Cert.Mlp.relu
  rw [hx j]
  split
  · rfl
  · exact max_self _

/-- The logits of one row of observations. -/
def logits (x : Fin 128 → EReal) (w1 : Fin 128 → Fin 600 → EReal) (b1 : Fin 600 → EReal)
    (w2 : Fin 600 → Fin 600 → EReal) (b2 : Fin 600 → EReal) (w3 : Fin 600 → Fin 56 → EReal) (b3 : Fin 56 → EReal) :
    Fin 56 → EReal :=
  dense (relu (dense (relu (dense x w1 b1)) w2 b2)) w3 b3

/-- Row `row` of an array of two axes. -/
abbrev rowOf {n p : Nat} (x : (⟨2, ![n, p]⟩ : Shape).Idx → EReal) (row : Fin n) (k : Fin p) : EReal := x (ix2 row k)

/-- An array of one axis, as a row. -/
abbrev vecOf {n : Nat} (x : (⟨1, ![n]⟩ : Shape).Idx → EReal) (k : Fin n) : EReal := x (ix1 k)

end Cert.Mlp

end
-- ==== Proof.Reference.lean ====
module

public import proofs.«01_k».proof.Proof.Layers
public import proofs.«01_k».proof.Proof.Columns
public import proofs.«01_k».proof.Proof.Gen.ReferenceIdeal.Read
public import Idealize.ShloMosaic.Lib.Pointwise

@[expose] public section

noncomputable section

namespace Cert.ReferenceIdeal.Rows

open Cert.ReferenceIdeal Cert.ReferenceIdeal.Read Cert.Mlp Idealize.ShloMosaic

variable (x0 : FVec Ideal S16384x128 .f32) (x1 : FVec Ideal S128x600 .f32) (x2 : FVec Ideal S600 .f32)
  (x3 : FVec Ideal S600x600 .f32) (x4 : FVec Ideal S600 .f32) (x5 : FVec Ideal S600x56 .f32)
  (x6 : FVec Ideal S56 .f32)

/-- The pattern of the maxima's initial value is the least extended real. -/
theorem ofBits_negInf : Ideal.ofBits .f32 4286578688#32 = ⊥ := by
  simp [Ideal.ofBits, Ideal.ieee]

/-- A logit of the reference, at one row. -/
theorem logits_apply (row : Fin 16384) (k : Fin 56) :
    val_main_v13 (F := Ideal) x0 x1 x2 x3 x4 x5 x6 (ix2 row k)
      = logits (rowOf x0 row) (rowOf x1) (vecOf x2) (rowOf x3) (vecOf x4) (rowOf x5) (vecOf x6) k := by
  pointwise [val_main_v13, val_main_v12, val_main_v11, val_main_v10, val_main_v9, val_main_call1_v0, val_main_call1_cst,
    val_main_v8, val_main_v7, val_main_v6, val_main_v5, val_main_v4, val_main_call0_v0, val_main_call0_cst,
    val_main_v3, val_main_v2, val_main_v1, val_main_v0]
  rfl

/-! ## The five softmax segments -/

/-- The probabilities of the three action types. -/
theorem segmentType (row : Fin 16384) (l : Fin 64 → ℝ)
    (hl : ∀ k : Fin 56, val_main_v13 (F := Ideal) x0 x1 x2 x3 x4 x5 x6 (ix2 row k) = (l ⟨k.val, by omega⟩ : EReal))
    (k : Fin 3) :
    val_main_v27 (F := Ideal) x0 x1 x2 x3 x4 x5 x6 (ix2 row k)
      = (prob (fun k : Fin 64 => group k.val) l ⟨0 + k.val, by omega⟩ : EReal) := by
  pointwise [val_main_v27, val_main_v26, val_main_v25, val_main_v24, val_main_cst_2, val_main_v23, val_main_v22,
    val_main_v21, val_main_v20, val_main_v19, val_main_v18, val_main_cst_1, val_main_v17, val_main_cst_0,
    val_main_v16, val_main_v15, val_main_cst, val_main_v14]
  rw [ofBits_negInf]
  simp only [hl]
  refine (softmax_segment (g := fun k : Fin 64 => group k.val) (n := 3) (k := k) l 0 _ (by omega) (fun j => ?_)
    (by revert k; decide +kernel)).trans ?_
  · simp only [Nat.zero_add]
  · simp only [Nat.zero_add]

/-- The probabilities of the segment of logits 3 to 14. -/
theorem segmentA (row : Fin 16384) (l : Fin 64 → ℝ)
    (hl : ∀ k : Fin 56, val_main_v13 (F := Ideal) x0 x1 x2 x3 x4 x5 x6 (ix2 row k) = (l ⟨k.val, by omega⟩ : EReal))
    (k : Fin 12) :
    val_main_v43 (F := Ideal) x0 x1 x2 x3 x4 x5 x6 (ix2 row k)
      = (prob (fun k : Fin 64 => group k.val) l ⟨3 + k.val, by omega⟩ : EReal) := by
  pointwise [val_main_v43, val_main_v42, val_main_v41, val_main_v40, val_main_cst_6, val_main_v39, val_main_v38,
    val_main_v37, val_main_v36, val_main_v35, val_main_v34, val_main_cst_5, val_main_v33, val_main_cst_4,
    val_main_v32, val_main_v31, val_main_cst_3, val_main_v30]
  rw [ofBits_negInf]
  simp only [hl]
  refine softmax_segment (n := 12) l 3 _ (by omega) (fun _ => rfl) (by revert k; decide +kernel)

/-- The probabilities of the segment of logits 15 to 17. -/
theorem segmentB (row : Fin 16384) (l : Fin 64 → ℝ)
    (hl : ∀ k : Fin 56, val_main_v13 (F := Ideal) x0 x1 x2 x3 x4 x5 x6 (ix2 row k) = (l ⟨k.val, by omega⟩ : EReal))
    (k : Fin 3) :
    val_main_v63 (F := Ideal) x0 x1 x2 x3 x4 x5 x6 (ix2 row k)
      = (prob (fun k : Fin 64 => group k.val) l ⟨15 + k.val, by omega⟩ : EReal) := by
  pointwise [val_main_v63, val_main_v62, val_main_v61, val_main_v60, val_main_cst_10, val_main_v59, val_main_v58,
    val_main_v57, val_main_v56, val_main_v55, val_main_v54, val_main_cst_9, val_main_v53, val_main_cst_8,
    val_main_v52, val_main_v51, val_main_cst_7, val_main_v50]
  rw [ofBits_negInf]
  simp only [hl]
  refine softmax_segment (n := 3) l 15 _ (by omega) (fun _ => rfl) (by revert k; decide +kernel)

/-- The probabilities of the segment of logits 18 to 43. -/
theorem segmentC (row : Fin 16384) (l : Fin 64 → ℝ)
    (hl : ∀ k : Fin 56, val_main_v13 (F := Ideal) x0 x1 x2 x3 x4 x5 x6 (ix2 row k) = (l ⟨k.val, by omega⟩ : EReal))
    (k : Fin 26) :
    val_main_v83 (F := Ideal) x0 x1 x2 x3 x4 x5 x6 (ix2 row k)
      = (prob (fun k : Fin 64 => group k.val) l ⟨18 + k.val, by omega⟩ : EReal) := by
  pointwise [val_main_v83, val_main_v82, val_main_v81, val_main_v80, val_main_cst_14, val_main_v79, val_main_v78,
    val_main_v77, val_main_v76, val_main_v75, val_main_v74, val_main_cst_13, val_main_v73, val_main_cst_12,
    val_main_v72, val_main_v71, val_main_cst_11, val_main_v70]
  rw [ofBits_negInf]
  simp only [hl]
  refine softmax_segment (n := 26) l 18 _ (by omega) (fun _ => rfl) (by revert k; decide +kernel)

/-- The probabilities of the segment of logits 44 to 55. -/
theorem segmentD (row : Fin 16384) (l : Fin 64 → ℝ)
    (hl : ∀ k : Fin 56, val_main_v13 (F := Ideal) x0 x1 x2 x3 x4 x5 x6 (ix2 row k) = (l ⟨k.val, by omega⟩ : EReal))
    (k : Fin 12) :
    val_main_v104 (F := Ideal) x0 x1 x2 x3 x4 x5 x6 (ix2 row k)
      = (prob (fun k : Fin 64 => group k.val) l ⟨44 + k.val, by omega⟩ : EReal) := by
  pointwise [val_main_v104, val_main_v103, val_main_v102, val_main_v101, val_main_cst_18, val_main_v100, val_main_v99,
    val_main_v98, val_main_v97, val_main_v96, val_main_v95, val_main_cst_17, val_main_v94, val_main_cst_16,
    val_main_v93, val_main_v92, val_main_cst_15, val_main_v91]
  rw [ofBits_negInf]
  simp only [hl]
  refine softmax_segment (n := 12) l 44 _ (by omega) (fun _ => rfl) (by revert k; decide +kernel)

/-! ## One row of the reference's result -/

/-- The middle 936 columns: a probability of each of the three factors of the second action type, and its own. -/
theorem middle_apply (row : Fin 16384) (j : Fin 936) :
    val_main_v89 (F := Ideal) x0 x1 x2 x3 x4 x5 x6 (ix2 row j)
      = val_main_v27 (F := Ideal) x0 x1 x2 x3 x4 x5 x6 (ix2 row 1)
        * val_main_v43 (F := Ideal) x0 x1 x2 x3 x4 x5 x6 (ix2 row ⟨j.val / 26 / 3, by omega⟩)
        * val_main_v63 (F := Ideal) x0 x1 x2 x3 x4 x5 x6 (ix2 row ⟨j.val / 26 % 3, by omega⟩)
        * val_main_v83 (F := Ideal) x0 x1 x2 x3 x4 x5 x6 (ix2 row ⟨j.val % 26, by omega⟩) := by
  pointwise [val_main_v89, val_main_v88, val_main_v87, val_main_v86, val_main_v85, val_main_v84, val_main_v69,
    val_main_v68, val_main_v67, val_main_v66, val_main_v65, val_main_v64, val_main_v49, val_main_v48, val_main_v47,
    val_main_v46, val_main_v45, val_main_v44, val_main_v29]

/-- Where the logits of a row are the real numbers `l`, the reference's result at that row and column `c` is the product
    of the probabilities that column `c` picks. -/
theorem result_apply (row : Fin 16384) (c : Fin 949) (l : Fin 64 → ℝ)
    (hl : ∀ k : Fin 56, val_main_v13 (F := Ideal) x0 x1 x2 x3 x4 x5 x6 (ix2 row k) = (l ⟨k.val, by omega⟩ : EReal)) :
    val_main_v111 (F := Ideal) x0 x1 x2 x3 x4 x5 x6 (ix2 row c)
      = ((∏ k : Fin 64 with picked k.val c.val, prob (fun k : Fin 64 => group k.val) l k : ℝ) : EReal) := by
  pointwise [val_main_v111, val_main_v110, val_main_v109, val_main_v108, val_main_v107, val_main_v106, val_main_v105,
    val_main_v90, val_main_v28]
  split
  · rename_i h
    obtain rfl : c = ⟨0, by decide⟩ := Fin.ext (by show c.val = 0; omega)
    refine (segmentType x0 x1 x2 x3 x4 x5 x6 row l hl _).trans ?_
    exact congrArg _ (prod_picked_first _).symm
  · split
    · rename_i h h'
      obtain ⟨j, rfl⟩ : ∃ j : Fin 936, c = ⟨1 + j.val, (Nat.add_lt_add_left j.isLt 1).trans_le (by decide)⟩ :=
        ⟨⟨c.val - 1, h'⟩, Fin.ext (by show c.val = 1 + (c.val - 1); omega)⟩
      have ej : (⟨1 + j.val - 1, h'⟩ : Fin 936) = j := Fin.ext (by show 1 + j.val - 1 = j.val; omega)
      refine (congrArg (fun i => val_main_v89 (F := Ideal) x0 x1 x2 x3 x4 x5 x6 (ix2 row i)) ej).trans ?_
      rw [middle_apply, segmentType x0 x1 x2 x3 x4 x5 x6 row l hl, segmentA x0 x1 x2 x3 x4 x5 x6 row l hl,
        segmentB x0 x1 x2 x3 x4 x5 x6 row l hl, segmentC x0 x1 x2 x3 x4 x5 x6 row l hl]
      refine Eq.trans ?_ (congrArg _ (prod_picked_second _ j).symm)
      simp only [Nat.div_div_eq_div_mul]
      push_cast
      rfl
    · rename_i h h'
      obtain ⟨j, rfl⟩ : ∃ j : Fin 12, c = ⟨937 + j.val, Nat.add_lt_add_left j.isLt 937⟩ :=
        ⟨⟨c.val - 937, by have := c.isLt; omega⟩,
          Fin.ext (by show c.val = 937 + (c.val - 937); omega)⟩
      have ej : (⟨937 + j.val - 1 - 936, by omega⟩ : Fin 12) = j := Fin.ext (by show 937 + j.val - 1 - 936 = j.val; omega)
      refine (congrArg (fun i => val_main_v27 (F := Ideal) x0 x1 x2 x3 x4 x5 x6 (ix2 row 2)
        * val_main_v104 (F := Ideal) x0 x1 x2 x3 x4 x5 x6 (ix2 row i)) ej).trans ?_
      rw [segmentType x0 x1 x2 x3 x4 x5 x6 row l hl, segmentD x0 x1 x2 x3 x4 x5 x6 row l hl]
      refine Eq.trans ?_ (congrArg _ (prod_picked_third _ j).symm)
      push_cast
      rfl

end Cert.ReferenceIdeal.Rows

end
-- ==== Proof.Final.lean ====
module

public import proofs.«01_k».proof.Proof.Block
public import proofs.«01_k».proof.Proof.Entry
public import proofs.«01_k».proof.Proof.Layers
public import proofs.«01_k».proof.Proof.Reference

@[expose] public section

noncomputable section

namespace Cert.KernelIdeal.Final

open Cert.KernelIdeal Cert.KernelIdeal.Gen Cert.KernelIdeal.Entry Cert.Mlp
open Idealize.ShloMosaic Idealize.ShloMosaic.TcCoe

variable (m : (ℓ : Loc nD τ sig) → Buf (Elt Ideal) ℓ) (c : Dev nD)

/-! ## The kernel's logits are the reference's, padded -/

/-- The reference's logits of one row of the observations. -/
def rowLogits (row : Fin 16384) : Fin 56 → EReal :=
  logits (rowOf (obs m c) row) (rowOf (weights1 m c)) (vecOf (bias1 m c)) (rowOf (weights2 m c)) (vecOf (bias2 m c))
    (rowOf (weights3 m c)) (vecOf (bias3 m c))

theorem pads_weights1 : Pads2 (rowOf (weights1 m c)) (rowOf (V m c main_v0 : S128x640.Idx → EReal)) := by
  intro k j
  show (V m c main_v0 : S128x640.Idx → EReal) (ix2 k j) = _
  rw [entry_weights1]
  by_cases h : j.val < 600
  · rw [dif_pos h, dif_pos ⟨k.isLt, h⟩]
  · rw [dif_neg h, dif_neg fun h' => h h'.2]

/-- What the kernel computes from a block's row `r` is the reference's logits of that row of the observations, and zeros. -/
theorem block_logits (t : Fin cfg0.N) (r : Fin 1024) (row : Fin 16384) (hrow : row.val = t.val * 1024 + r.val) :
    Pads (rowLogits m c row) (Block.logit (iblk m c 0 t) (iblk m c 1 t) (iblk m c 2 t) (iblk m c 3 t) (iblk m c 4 t)
      (iblk m c 5 t) (iblk m c 6 t) r) := by
  rw [block1, block2, block3, block4, block5, block6]
  show Pads (rowLogits m c row)
    (dense (relu (dense (relu (dense (rowOf (iblk m c 0 t : S1024x128.Idx → EReal) r)
      (rowOf (V m c main_v0 : S128x640.Idx → EReal)) (rowOf (V m c main_v2 : S1x640.Idx → EReal) 0)))
      (rowOf (V m c main_v3 : S640x640.Idx → EReal)) (rowOf (V m c main_v5 : S1x640.Idx → EReal) 0)))
      (rowOf (V m c main_v6 : S640x64.Idx → EReal)) (rowOf (V m c main_v8 : S1x64.Idx → EReal) 0))
  refine Pads.dense (by omega) (Pads.relu (Pads.dense (by omega) (Pads.relu (Pads.dense le_rfl (fun k => ?_)
    (pads_weights1 m c) (entry_bias1 m c))) (entry_weights2 m c) (entry_bias2 m c))) (entry_weights3 m c)
    (entry_bias3 m c)
  rw [dif_pos k.isLt]
  exact block_obs m c t r k row hrow

/-! ## The result array -/

/-- Every argument entry is a real number. -/
def Finite : Prop :=
  (∀ i, IsReal (obs m c i)) ∧ (∀ i, IsReal (weights1 m c i)) ∧ (∀ i, IsReal (bias1 m c i))
    ∧ (∀ i, IsReal (weights2 m c i)) ∧ (∀ i, IsReal (bias2 m c i)) ∧ (∀ i, IsReal (weights3 m c i))
    ∧ ∀ i, IsReal (bias3 m c i)

variable {m c}

/-- The logits of finite arguments are real numbers. -/
theorem Finite.logits (h : Finite m c) (row : Fin 16384) (k : Fin 56) : IsReal (rowLogits m c row k) := by
  obtain ⟨h0, h1, h2, h3, h4, h5, h6⟩ := h
  exact isReal_dense (isReal_relu (isReal_dense (isReal_relu (isReal_dense (fun _ => h0 _) (fun _ _ => h1 _)
    fun _ => h2 _)) (fun _ _ => h3 _) fun _ => h4 _)) (fun _ _ => h5 _) (fun _ => h6 _) k

/-- The padded logits of one row, as real numbers. -/
theorem Finite.padded (h : Finite m c) (row : Fin 16384) :
    ∃ l : Fin 64 → ℝ, ∀ k, (if h : k.val < 56 then rowLogits m c row ⟨k.val, h⟩ else 0) = (l k : EReal) := by
  have real (k : Fin 64) : IsReal (if h : k.val < 56 then rowLogits m c row ⟨k.val, h⟩ else 0) := by
    split
    · exact h.logits row _
    · exact isReal_zero
  choose l hl using real
  exact ⟨l, hl⟩

variable (m c)

/-- The reference's result of the kernel's arguments. -/
abbrev expected : S16384x949.Idx → EReal :=
  Cert.ReferenceIdeal.Read.val_main_v111 (F := Ideal) (obs m c) (weights1 m c) (bias1 m c) (weights2 m c) (bias2 m c)
    (weights3 m c) (bias3 m c)

theorem index9 : ∀ t : Fin cfg0.N, win0_9.index t = ![t.val, 0] :=
  (by decide +kernel : ∀ t : Fin grid0.N, win0_9.index t = ![t.val, 0])

/-- What the kernel leaves in a block, at a row and a column. -/
theorem block_result (h : Finite m c) (t : Fin cfg0.N) (r : Fin 1024) (q : Fin 949) (row : Fin 16384)
    (hrow : row.val = t.val * 1024 + r.val) :
    out0_9 (iblk m c 0 t) (iblk m c 1 t) (iblk m c 2 t) (iblk m c 3 t) (iblk m c 4 t) (iblk m c 5 t) (iblk m c 6 t)
      (iblk m c 7 t) (iblk m c 8 t) (ix2 r q) = expected m c (ix2 row q) := by
  obtain ⟨l, hl⟩ := h.padded row
  rw [Block.out0_9_apply _ _ _ _ _ _ _ _ _ r q l (fun k => (block_logits m c t r row hrow k).trans (hl k))
    (fun k => by rw [block7]; exact entry_selection m c k q) fun j k => by rw [block8]; exact entry_groups m c j k]
  refine (Cert.ReferenceIdeal.Rows.result_apply _ _ _ _ _ _ _ row q l fun k => ?_).symm
  rw [Cert.ReferenceIdeal.Rows.logits_apply, ← hl, dif_pos (by exact k.isLt)]
  rfl

/-- After the kernel's run its result array is the reference's result. -/
theorem result_eq (h : Finite m c) : (dats m 0 c).arrAt 9 cfg0.N = expected m c := by
  refine (dats m 0 c).arrAt_eq_of_covers 9 _ (by decide +kernel) fun t hf y => ?_
  blk_simp
  rw [after0_9]
  obtain ⟨r, q, rfl⟩ : ∃ (r : Fin 1024) (q : Fin 949), y = ix2 r q := ⟨y 0, y 1, by funext a; fin_cases a <;> rfl⟩
  have ht : t.val < 16 := t.isLt
  rw [block_result m c h t r q ⟨t.val * 1024 + r.val, by omega⟩ rfl]
  congr 1
  blk_ext [index9 t]

end Cert.KernelIdeal.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.Final
public import Idealize.ShloMosaic.Adequacy
public import Idealize.ShloMosaic.Lib.Claim
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts
  Cert.Pre_finite.facts

/-- The reference leaves its arguments as they were, and has no semaphore to leave raised. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- On finite arguments the kernel and the reference end with one result. -/
theorem results_agree : Cert.algebraic_KernelIdeal_ReferenceIdeal_pre_finite := by
  intro m g m' g' hpre hagree
  refine ⟨fun c => Cert.KernelIdeal.Final.expected m c, ?_, ?_⟩
  · refine (θ_run Cert.KernelIdeal.defs _ _).mono (fun r h c => ⟨(h c).1.trans ?_, (h c).2⟩)
      (Cert.KernelIdeal.Value.run_blocks (F := Ideal) m g)
    exact Cert.KernelIdeal.Final.result_eq m c (Cert.Pre_finite.isReal_args _ _ _ _ _ _ _ (hpre c))
  · refine (θ_run Cert.ReferenceIdeal.defs _ _).mono (fun r h c => ⟨(h c).1.trans ?_, (h c).2⟩)
      (Cert.ReferenceIdeal.Value.run (F := Ideal) m' g')
    obtain ⟨h0, h1, h2, h3, h4, h5, h6⟩ := hagree c
    rw [Cert.ReferenceIdeal.Read.val_main_v111_eq, h0, h1, h2, h3, h4, h5, h6]

/-- All the claims together. -/
theorem claim : Cert.Claim :=
  ⟨Cert.Kernel.Gen.facts, Cert.KernelIdeal.Gen.facts, Cert.ReferenceIdeal.Gen.facts, Cert.Pre_finite.facts,
    fun m g _ => Cert.Kernel.Gen.frame m g, fun m g _ => Cert.KernelIdeal.Gen.frame m g,
    fun m g _ => Cert.KernelIdeal.Gen.frame m g, reference_frame, fun m g _ => reference_frame m g trivial, trivial,
    results_agree⟩

end Cert.Proof

end
